-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_layer2_finite [hPre_layer2_finite : Cert.Pre_layer2_finite.Facts] (m : (ℓ : Loc Cert.KernelIdeal.nD Cert.KernelIdeal.τ Cert.KernelIdeal.sig) → Buf (Elt Ideal) ℓ) : Prop :=
  ∀ c : Dev Cert.KernelIdeal.nD,
    (Cert.Pre_layer2_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_layer2_finite [hPre_layer2_finite : Cert.Pre_layer2_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_layer2_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_layer2_finite [hKernelIdeal : Cert.KernelIdeal.Facts] [hPre_layer2_finite : Cert.Pre_layer2_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_layer2_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_layer2_finite [hReferenceIdeal : Cert.ReferenceIdeal.Facts] [hPre_layer2_finite : Cert.Pre_layer2_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_layer2_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_layer2_finite [hKernelIdeal : Cert.KernelIdeal.Facts] [hReferenceIdeal : Cert.ReferenceIdeal.Facts] [hPre_layer2_finite : Cert.Pre_layer2_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_layer2_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_layer2_finite : Cert.Pre_layer2_finite.Facts),
    quiescent_Kernel (hKernel := hKernel)
    ∧ quiescent_KernelIdeal (hKernelIdeal := hKernelIdeal)
    ∧ quiescent_KernelIdeal_pre_layer2_finite (hKernelIdeal := hKernelIdeal) (hPre_layer2_finite := hPre_layer2_finite)
    ∧ quiescent_ReferenceIdeal (hReferenceIdeal := hReferenceIdeal)
    ∧ quiescent_ReferenceIdeal_pre_layer2_finite (hReferenceIdeal := hReferenceIdeal) (hPre_layer2_finite := hPre_layer2_finite)
    ∧ preserves_Kernel_KernelIdeal
    ∧ algebraic_KernelIdeal_ReferenceIdeal_pre_layer2_finite (hKernelIdeal := hKernelIdeal) (hReferenceIdeal := hReferenceIdeal) (hPre_layer2_finite := hPre_layer2_finite)
-- ==== Pre_layer2_finite.lean ====
abbrev S128x100x128 : Shape := ⟨3, ![128, 100, 128]⟩
abbrev S128x100x100 : Shape := ⟨3, ![128, 100, 100]⟩
abbrev S128x32 : Shape := ⟨2, ![128, 32]⟩
abbrev S1x32 : Shape := ⟨2, ![1, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S32 : S_.BroadcastsInDim S32 (![] : Fin 0 → Fin S32.rank)
  shapeCasts_S32x1_S32 : S32x1.ShapeCasts S32
  bcast_S_S1 : S_.BroadcastsInDim S1 (![] : Fin 0 → Fin S1.rank)
  bcast_S1_S32_0 : S1.BroadcastsInDim S32 (![0] : Fin 1 → Fin S32.rank)

variable [Facts]

def fn_part1 {F : FTy → Type} [FloatOps F] (main_v16 : IVec S32 1) (main_v17 : FVec F S1 .f32) (main_v18 : FVec F S1 .f32) : IVec S32 1 :=
  let main_v19 : IVec S1 1 := cmpf .olt main_v17 main_v18
  let main_v20 : IVec S32 1 := broadcastInDim S32 ![0] bcast_S1_S32_0 main_v19
  let main_v21 : IVec S32 1 := andi main_v16 main_v20
  main_v21

def fn {F : FTy → Type} [FloatOps F] (main_arg0 : FVec F S128x100x128 .f32) (main_arg1 : FVec F S128x100x100 .f32) (main_arg2 : FVec F S128x32 .f32) (main_arg3 : FVec F S1x32 .f32) (main_arg4 : FVec F S1x32 .f32) (main_arg5 : FVec F S32 .f32) (main_arg6 : FVec F S32 .f32) (main_arg7 : FVec F S32 .f32) (main_arg8 : FVec F S32x1 .f32) (main_arg9 : FVec F S1 .f32) (main_arg10 : FVec F S1 .f32) (main_arg11 : FVec F S1 .f32) : IVec S32 1 :=
  let main_v0 : FVec F S32 .f32 := Host.absf main_arg6
  let main_cst : FVec F S_ .f32 := constant S_ .f32 0x7F800000#32
  let main_v1 : FVec F S32 .f32 := broadcastInDim S32 ![] bcast_S_S32 main_cst
  let main_v2 : IVec S32 1 := cmpf .olt main_v0 main_v1
  let main_v3 : FVec F S32 .f32 := Host.absf main_arg7
  let main_cst_0 : FVec F S_ .f32 := constant S_ .f32 0x7F800000#32
  let main_v4 : FVec F S32 .f32 := broadcastInDim S32 ![] bcast_S_S32 main_cst_0
  let main_v5 : IVec S32 1 := cmpf .olt main_v3 main_v4
  let main_v6 : IVec S32 1 := andi main_v2 main_v5
  let main_v7 : FVec F S32 .f32 := shapeCast S32 main_arg8 shapeCasts_S32x1_S32
  let main_v8 : FVec F S32 .f32 := Host.absf main_v7
  let main_cst_1 : FVec F S_ .f32 := constant S_ .f32 0x7F800000#32
  let main_v9 : FVec F S32 .f32 := broadcastInDim S32 ![] bcast_S_S32 main_cst_1
  let main_v10 : IVec S32 1 := cmpf .olt main_v8 main_v9
  let main_v11 : IVec S32 1 := andi main_v6 main_v10
  let main_v12 : FVec F S1 .f32 := Host.absf main_arg9
  let main_cst_2 : FVec F S_ .f32 := constant S_ .f32 0x7F800000#32
  let main_v13 : FVec F S1 .f32 := broadcastInDim S1 ![] bcast_S_S1 main_cst_2
  let main_v14 : IVec S1 1 := cmpf .olt main_v12 main_v13
  let main_v15 : IVec S32 1 := broadcastInDim S32 ![0] bcast_S1_S32_0 main_v14
  let main_v16 : IVec S32 1 := andi main_v11 main_v15
  let main_v17 : FVec F S1 .f32 := Host.absf main_arg10
  let main_cst_3 : FVec F S_ .f32 := constant S_ .f32 0x7F800000#32
  let main_v18 : FVec F S1 .f32 := broadcastInDim S1 ![] bcast_S_S1 main_cst_3
  fn_part1 (F := F) main_v16 main_v17 main_v18
-- ==== Kernel.lean ====
abbrev S128x100x128 : Shape := ⟨3, ![128, 100, 128]⟩
abbrev S128x100x100 : Shape := ⟨3, ![128, 100, 100]⟩
abbrev S128x32 : Shape := ⟨2, ![128, 32]⟩
abbrev S1x32 : Shape := ⟨2, ![1, 32]⟩
abbrev S32 : Shape := ⟨1, ![32]⟩
abbrev S32x1 : Shape := ⟨2, ![32, 1]⟩
abbrev S1 : Shape := ⟨1, ![1]⟩
abbrev S1x1 : Shape := ⟨2, ![1, 1]⟩
abbrev S128x100 : Shape := ⟨2, ![128, 100]⟩
abbrev S64x100x128 : Shape := ⟨3, ![64, 100, 128]⟩
abbrev S64x100 : Shape := ⟨2, ![64, 100]⟩
abbrev S6400x128 : Shape := ⟨2, ![6400, 128]⟩
abbrev S6400x32 : Shape := ⟨2, ![6400, 32]⟩
abbrev S64x100x32 : Shape := ⟨3, ![64, 100, 32]⟩
abbrev S6400 : Shape := ⟨1, ![6400]⟩
abbrev S6400x1 : Shape := ⟨2, ![6400, 1]⟩
abbrev S64x100x1 : Shape := ⟨3, ![64, 100, 1]⟩
abbrev S64x1x100 : Shape := ⟨3, ![64, 1, 100]⟩
abbrev S64x1 : Shape := ⟨2, ![64, 1]⟩
abbrev S64x1x1 : Shape := ⟨3, ![64, 1, 1]⟩
abbrev S64x100x100 : Shape := ⟨3, ![64, 100, 100]⟩
abbrev S64x100x33 : Shape := ⟨3, ![64, 100, 33]⟩
abbrev S1x1x32 : Shape := ⟨3, ![1, 1, 32]⟩
abbrev S64x100x2 : Shape := ⟨3, ![64, 100, 2]⟩
abbrev S128x100x1 : Shape := ⟨3, ![128, 100, 1]⟩

abbrev nBuf : Space → Nat
  | .hbm => 22
  | .vmem => 14
  | .smem => 0
  | _ => 0

abbrev bufTy : (tb : Table) → Fin (tcTables nBuf tb) → BufTy
  | .hbm, ⟨0, _⟩ => ⟨S128x100x128, .f32⟩
  | .hbm, ⟨1, _⟩ => ⟨S128x100x100, .f32⟩
  | .hbm, ⟨2, _⟩ => ⟨S128x32, .f32⟩
  | .hbm, ⟨3, _⟩ => ⟨S1x32, .f32⟩
  | .hbm, ⟨4, _⟩ => ⟨S1x32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S128x100x128, .bf16⟩
  | .hbm, ⟨13, _⟩ => ⟨S1x32, .f32⟩
  | .hbm, ⟨14, _⟩ => ⟨S1x32, .f32⟩
  | .hbm, ⟨15, _⟩ => ⟨S1x32, .f32⟩
  | .hbm, ⟨16, _⟩ => ⟨S1x32, .f32⟩
  | .hbm, ⟨17, _⟩ => ⟨S1x1, .f32⟩
  | .hbm, ⟨18, _⟩ => ⟨S1x1, .f32⟩
  | .hbm, ⟨19, _⟩ => ⟨S1x1, .f32⟩
  | .hbm, ⟨20, _⟩ => ⟨S128x100, .f32⟩
  | .hbm, ⟨21, _⟩ => ⟨S128x100x1, .f32⟩
  | .local _ .vmem, ⟨0, _⟩ => ⟨S64x100x128, .bf16⟩
  | .local _ .vmem, ⟨1, _⟩ => ⟨S64x100x128, .bf16⟩
  | .local _ .vmem, ⟨2, _⟩ => ⟨S128x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S1x32, .f32⟩
  | .local _ .vmem, ⟨8, _⟩ => ⟨S1x32, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S64x100, .f32⟩
  | .local _ .vmem, ⟨13, _⟩ => ⟨S64x100, .f32⟩
  | _, _ => ⟨S128x100x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x100x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S64x100 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S128x100x128 : Shape := ⟨3, ![128, 100, 128]⟩
abbrev S128x100x100 : Shape := ⟨3, ![128, 100, 100]⟩
abbrev S128x32 : Shape := ⟨2, ![128, 32]⟩
abbrev S1x32 : Shape := ⟨2, ![1, 32]⟩
abbrev S32 : Shape := ⟨1, ![32]⟩
abbrev S32x1 : Shape := ⟨2, ![32, 1]⟩
abbrev S1 : Shape := ⟨1, ![1]⟩
abbrev S12800x128 : Shape := ⟨2, ![12800, 128]⟩
abbrev S12800x32 : Shape := ⟨2, ![12800, 32]⟩
abbrev S128x100x1x32 : Shape := ⟨4, ![128, 100, 1, 32]⟩
abbrev S1x1x1x32 : Shape := ⟨4, ![1, 1, 1, 32]⟩
abbrev S_ : Shape := ⟨0, ![]⟩
abbrev S128x100x1 : Shape := ⟨3, ![128, 100, 1]⟩
abbrev S128x100x1x1 : Shape := ⟨4, ![128, 100, 1, 1]⟩
abbrev S128x1x100x1 : Shape := ⟨4, ![128, 1, 100, 1]⟩
abbrev S128x100x100x1 : Shape := ⟨4, ![128, 100, 100, 1]⟩
abbrev S128x1x32x100 : Shape := ⟨4, ![128, 1, 32, 100]⟩
abbrev S128x100x32 : Shape := ⟨3, ![128, 100, 32]⟩
abbrev S1x1x32 : Shape := ⟨3, ![1, 1, 32]⟩
abbrev S128x100 : Shape := ⟨2, ![128, 100]⟩
abbrev S1x1x1 : Shape := ⟨3, ![1, 1, 1]⟩
abbrev S128x1x100 : Shape := ⟨3, ![128, 1, 100]⟩

abbrev nBuf : Space → Nat
  | .hbm => 159
  | .vmem => 0
  | .smem => 0
  | _ => 0

abbrev hbmTy0_0 (i : Nat) : BufTy := match i % 128 with
  | 0 => ⟨S128x100x128, .f32⟩
  | 1 => ⟨S128x100x100, .f32⟩
  | 2 => ⟨S128x32, .f32⟩
  | 3 => ⟨S1x32, .f32⟩
  | 4 => ⟨S1x32, .f32⟩
  | 5 => ⟨S32, .f32⟩
  | 6 => ⟨S32, .f32⟩
  | 7 => ⟨S32, .f32⟩
  | 8 => ⟨S32x1, .f32⟩
  | 9 => ⟨S1, .f32⟩
  | 10 => ⟨S1, .f32⟩
  | 11 => ⟨S1, .f32⟩
  | 12 => ⟨S12800x128, .f32⟩
  | 13 => ⟨S12800x32, .f32⟩
  | 14 => ⟨S128x100x1x32, .f32⟩
  | 15 => ⟨S1x1x1x32, .f32⟩
  | 16 => ⟨S128x100x1x32, .f32⟩
  | 17 => ⟨S128x100x1x32, .f32⟩
  | 18 => ⟨S_, .f32⟩
  | 19 => ⟨S128x100x1, .f32⟩
  | 20 => ⟨S1x1x1x32, .f32⟩
  | 21 => ⟨S128x100x1x32, .f32⟩
  | 22 => ⟨S128x100x1x32, .f32⟩
  | 23 => ⟨S_, .f32⟩
  | 24 => ⟨S128x100x1, .f32⟩
  | 25 => ⟨S128x100x1x1, .f32⟩
  | 26 => ⟨S128x1x100x1, .f32⟩
  | 27 => ⟨S128x100x100x1, .f32⟩
  | 28 => ⟨S128x100x100x1, .f32⟩
  | 29 => ⟨S128x100x100x1, .f32⟩
  | 30 => ⟨S_, .f32⟩
  | 31 => ⟨S_, .f32⟩
  | 32 => ⟨S128x100x100x1, .f32⟩
  | 33 => ⟨S128x100x100x1, .i1⟩
  | 34 => ⟨S_, .f32⟩
  | 35 => ⟨S128x100x100x1, .f32⟩
  | 36 => ⟨S128x100x100x1, .f32⟩
  | 37 => ⟨S128x100x100x1, .f32⟩
  | 38 => ⟨S_, .f32⟩
  | 39 => ⟨S128x100x1, .f32⟩
  | 40 => ⟨S_, .f32⟩
  | 41 => ⟨S128x100x1, .f32⟩
  | 42 => ⟨S128x100x1, .f32⟩
  | 43 => ⟨S128x100x1x1, .f32⟩
  | 44 => ⟨S128x100x100x1, .f32⟩
  | 45 => ⟨S128x100x100x1, .f32⟩
  | 46 => ⟨S128x100x100x1, .f32⟩
  | 47 => ⟨S_, .f32⟩
  | 48 => ⟨S128x100x1, .f32⟩
  | 49 => ⟨S128x100x1x1, .f32⟩
  | 50 => ⟨S128x100x100x1, .f32⟩
  | 51 => ⟨S128x100x100x1, .f32⟩
  | 52 => ⟨S128x1x32x100, .f32⟩
  | 53 => ⟨S128x100x1x32, .f32⟩
  | 54 => ⟨S128x100x32, .f32⟩
  | 55 => ⟨S1x1x32, .f32⟩
  | 56 => ⟨S128x100x32, .f32⟩
  | 57 => ⟨S128x100x32, .f32⟩
  | 58 => ⟨S_, .f32⟩
  | 59 => ⟨S128x100, .f32⟩
  | 60 => ⟨S128x100x1, .f32⟩
  | 61 => ⟨S_, .f32⟩
  | 62 => ⟨S128x100x1, .f32⟩
  | 63 => ⟨S128x100x1, .f32⟩
  | 64 => ⟨S_, .i32⟩
  | 65 => ⟨S_, .f32⟩
  | 66 => ⟨S128x100, .f32⟩
  | 67 => ⟨S128x100x1, .f32⟩
  | 68 => ⟨S_, .f32⟩
  | 69 => ⟨S128x100x1, .f32⟩
  | 70 => ⟨S128x100x1, .f32⟩
  | 71 => ⟨S128x100x32, .f32⟩
  | 72 => ⟨S128x100x32, .f32⟩
  | 73 => ⟨S128x100x32, .f32⟩
  | 74 => ⟨S_, .f32⟩
  | 75 => ⟨S_, .f32⟩
  | 76 => ⟨S_, .f32⟩
  | 77 => ⟨S_, .f32⟩
  | 78 => ⟨S128x100, .f32⟩
  | 79 => ⟨S128x100x1, .f32⟩
  | 80 => ⟨S128x100x1, .f32⟩
  | 81 => ⟨S128x100x1, .f32⟩
  | 82 => ⟨S_, .f32⟩
  | 83 => ⟨S_, .i1⟩
  | 84 => ⟨S_, .f32⟩
  | 85 => ⟨S_, .f32⟩
  | 86 => ⟨S128x100x1, .f32⟩
  | 87 => ⟨S128x100x1, .f32⟩
  | 88 => ⟨S128x100x32, .f32⟩
  | 89 => ⟨S128x100x32, .f32⟩
  | 90 => ⟨S_, .f32⟩
  | 91 => ⟨S128x100x1, .f32⟩
  | 92 => ⟨S128x100x1, .f32⟩
  | 93 => ⟨S128x100x1, .f32⟩
  | 94 => ⟨S128x100x32, .f32⟩
  | 95 => ⟨S128x100x32, .f32⟩
  | 96 => ⟨S1x1x32, .f32⟩
  | 97 => ⟨S128x100x32, .f32⟩
  | 98 => ⟨S128x100x32, .f32⟩
  | 99 => ⟨S1x1x32, .f32⟩
  | 100 => ⟨S128x100x32, .f32⟩
  | 101 => ⟨S128x100x32, .f32⟩
  | 102 => ⟨S128x100x1, .f32⟩
  | 103 => ⟨S1x1x1, .f32⟩
  | 104 => ⟨S128x100x1, .f32⟩
  | 105 => ⟨S128x100x1, .f32⟩
  | 106 => ⟨S_, .f32⟩
  | 107 => ⟨S128x100, .f32⟩
  | 108 => ⟨S1x1x1, .f32⟩
  | 109 => ⟨S128x100x1, .f32⟩
  | 110 => ⟨S128x100x1, .f32⟩
  | 111 => ⟨S_, .f32⟩
  | 112 => ⟨S128x100, .f32⟩
  | 113 => ⟨S128x100x1, .f32⟩
  | 114 => ⟨S128x1x100, .f32⟩
  | 115 => ⟨S128x100x100, .f32⟩
  | 116 => ⟨S128x100x100, .f32⟩
  | 117 => ⟨S128x100x100, .f32⟩
  | 118 => ⟨S_, .f32⟩
  | 119 => ⟨S_, .f32⟩
  | 120 => ⟨S128x100x100, .f32⟩
  | 121 => ⟨S128x100x100, .i1⟩
  | 122 => ⟨S_, .f32⟩
  | 123 => ⟨S128x100x100, .f32⟩
  | 124 => ⟨S128x100x100, .f32⟩
  | 125 => ⟨S128x100x100, .f32⟩
  | 126 => ⟨S_, .f32⟩
  | 127 => ⟨S128x100, .f32⟩
  | _ => ⟨S128x100x128, .f32⟩

abbrev hbmTy0_1 (i : Nat) : BufTy := match i % 128 with
  | 0 => ⟨S_, .f32⟩
  | 1 => ⟨S128x100, .f32⟩
  | 2 => ⟨S128x100, .f32⟩
  | 3 => ⟨S128x100x1, .f32⟩
  | 4 => ⟨S128x100x100, .f32⟩
  | 5 => ⟨S128x100x100, .f32⟩
  | 6 => ⟨S128x100x100, .f32⟩
  | 7 => ⟨S_, .f32⟩
  | 8 => ⟨S128x100, .f32⟩
  | 9 => ⟨S128x100x1, .f32⟩
  | 10 => ⟨S128x100x100, .f32⟩
  | 11 => ⟨S128x100x100, .f32⟩
  | 12 => ⟨S128x100x1, .f32⟩
  | 13 => ⟨S1x1x1, .f32⟩
  | 14 => ⟨S128x100x1, .f32⟩
  | 15 => ⟨S128x100x1, .f32⟩
  | 16 => ⟨S_, .f32⟩
  | 17 => ⟨S128x100x1, .f32⟩
  | 18 => ⟨S128x100x1, .i1⟩
  | 19 => ⟨S_, .f32⟩
  | 20 => ⟨S128x100x1, .f32⟩
  | 21 => ⟨S128x100x1, .i1⟩
  | 22 => ⟨S_, .f32⟩
  | 23 => ⟨S_, .f32⟩
  | 24 => ⟨S128x100x1, .f32⟩
  | 25 => ⟨S128x100x1, .f32⟩
  | 26 => ⟨S128x100x1, .f32⟩
  | 27 => ⟨S_, .f32⟩
  | 28 => ⟨S128x100x1, .f32⟩
  | 29 => ⟨S128x100x1, .f32⟩
  | 30 => ⟨S128x100x1, .f32⟩
  | _ => ⟨S128x100x128, .f32⟩

abbrev hbmTy (i : Nat) : BufTy := match i / 128 with
  | 0 => hbmTy0_0 i
  | 1 => hbmTy0_1 i
  | _ => ⟨S128x100x128, .f32⟩

abbrev bufTy : (tb : Table) → Fin (tcTables nBuf tb) → BufTy
  | .hbm, ⟨i, _⟩ => hbmTy i
  | _, _ => ⟨S128x100x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_c : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_cst_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_cst_1 : Ref sig .tc := ⟨.hbm, 75, rfl⟩
abbrev main_call1_v8 : Ref sig .tc := ⟨.hbm, 76, rfl⟩
abbrev main_call1_cst_2 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_v12 : Ref sig .tc := ⟨.hbm, 81, rfl⟩
abbrev main_call1_cst_3 : Ref sig .tc := ⟨.hbm, 82, rfl⟩
abbrev main_call1_v13 : Ref sig .tc := ⟨.hbm, 83, rfl⟩
abbrev main_call1_cst_4 : Ref sig .tc := ⟨.hbm, 84, rfl⟩
abbrev main_call1_call0_v0 : Ref sig .tc := ⟨.hbm, 85, rfl⟩
abbrev main_call1_call0_v1 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_cst_7 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_8 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_cst_9 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_10 : Ref sig .tc := ⟨.hbm, 118, rfl⟩
abbrev main_call2_cst : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_v66 : Ref sig .tc := ⟨.hbm, 125, rfl⟩
abbrev main_cst_11 : Ref sig .tc := ⟨.hbm, 126, rfl⟩
abbrev main_v67 : Ref sig .tc := ⟨.hbm, 127, rfl⟩
abbrev main_cst_12 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_cst_13 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_call3_cst : Ref sig .tc := ⟨.hbm, 144, rfl⟩
abbrev main_call3_v0 : Ref sig .tc := ⟨.hbm, 145, rfl⟩
abbrev main_call3_v1 : Ref sig .tc := ⟨.hbm, 146, rfl⟩
abbrev main_call3_cst_0 : Ref sig .tc := ⟨.hbm, 147, rfl⟩
abbrev main_call3_v2 : Ref sig .tc := ⟨.hbm, 148, rfl⟩
abbrev main_call3_v3 : Ref sig .tc := ⟨.hbm, 149, rfl⟩
abbrev main_call3_cst_1 : Ref sig .tc := ⟨.hbm, 150, rfl⟩
abbrev main_call3_call0_v0 : Ref sig .tc := ⟨.hbm, 151, rfl⟩
abbrev main_call3_call0_v1 : Ref sig .tc := ⟨.hbm, 152, rfl⟩
abbrev main_call3_v4 : Ref sig .tc := ⟨.hbm, 153, rfl⟩
abbrev main_call3_v5 : Ref sig .tc := ⟨.hbm, 154, rfl⟩
abbrev main_call3_cst_2 : Ref sig .tc := ⟨.hbm, 155, rfl⟩
abbrev main_call3_v6 : Ref sig .tc := ⟨.hbm, 156, rfl⟩
abbrev main_call3_v7 : Ref sig .tc := ⟨.hbm, 157, rfl⟩
abbrev main_v82 : Ref sig .tc := ⟨.hbm, 158, rfl⟩

abbrev nD : Nat := 1
abbrev τ : Topo := Topo.v7x

variable {F : FTy → Type} [FloatOps F]
-- ==== Proof.Scalars.lean ====
/- Extended reals that are real numbers, their finite sums, and the constants both programs print. -/
module

public import Idealize.ShloMosaic.Lib.Pointwise
public import Idealize.ShloMosaic.Lib.Pipeline.ValueKit

@[expose] public section

noncomputable section

namespace Cert.Proof

open Idealize.ShloMosaic

/-- `x` is a real number, neither infinity. -/
def IsReal (x : EReal) : Prop := ∃ r : ℝ, x = (r : EReal)

/-- Being real is being neither infinity. -/
theorem isReal_iff {x : EReal} : IsReal x ↔ x ≠ ⊥ ∧ x ≠ ⊤ := by
  constructor
  · rintro ⟨r, rfl⟩
    exact ⟨EReal.coe_ne_bot r, EReal.coe_ne_top r⟩
  · rintro ⟨hb, ht⟩
    exact ⟨x.toReal, (EReal.coe_toReal ht hb).symm⟩

/-- What is not real is one of the two infinities. -/
theorem not_isReal {x : EReal} (h : ¬ IsReal x) : x = ⊥ ∨ x = ⊤ := by
  rw [isReal_iff] at h
  tauto

/-- The lower infinity is not real. -/
theorem not_isReal_bot : ¬ IsReal ⊥ := fun h => (isReal_iff.mp h).1 rfl

/-- The upper infinity is not real. -/
theorem not_isReal_top : ¬ IsReal ⊤ := fun h => (isReal_iff.mp h).2 rfl

/-- Zero is real. -/
theorem isReal_zero : IsReal 0 := ⟨0, rfl⟩

/-- A sum of two reals is real. -/
theorem IsReal.add {x y : EReal} (hx : IsReal x) (hy : IsReal y) : IsReal (x + y) := by
  obtain ⟨r, rfl⟩ := hx
  obtain ⟨q, rfl⟩ := hy
  exact ⟨r + q, (EReal.coe_add r q).symm⟩

/-- A difference of two reals is real. -/
theorem IsReal.sub {x y : EReal} (hx : IsReal x) (hy : IsReal y) : IsReal (x - y) := by
  obtain ⟨r, rfl⟩ := hx
  obtain ⟨q, rfl⟩ := hy
  exact ⟨r - q, (EReal.coe_sub r q).symm⟩

/-- A product of two reals is real. -/
theorem IsReal.mul {x y : EReal} (hx : IsReal x) (hy : IsReal y) : IsReal (x * y) := by
  obtain ⟨r, rfl⟩ := hx
  obtain ⟨q, rfl⟩ := hy
  exact ⟨r * q, (EReal.coe_mul r q).symm⟩

/-- The larger of two reals is real. -/
theorem IsReal.max {x y : EReal} (hx : IsReal x) (hy : IsReal y) : IsReal (Max.max x y) := by
  rcases max_choice x y with h | h <;> rw [h] <;> assumption

/-- A number whose absolute value is below `⊤` is real. -/
theorem isReal_of_abs_lt_top {x : EReal} (h : Max.max x (-x) < ⊤) : IsReal x := by
  rw [isReal_iff]
  constructor
  · rintro rfl
    simp at h
  · rintro rfl
    simp at h

section Sums

variable {ι : Type} [Fintype ι]

/-- A finite sum of reals is real. -/
theorem isReal_sum {f : ι → EReal} (h : ∀ i, IsReal (f i)) : IsReal (∑ i, f i) := by
  classical
  refine Finset.induction_on (motive := fun s => IsReal (∑ i ∈ s, f i)) Finset.univ ?_ ?_
  · simpa using isReal_zero
  · intro a s ha ih
    rw [Finset.sum_insert ha]
    exact (h a).add ih

/-- A finite sum with a term that is not real is not real: with a term `⊥` it is `⊥`, else it is `⊤`. -/
theorem not_isReal_sum {f : ι → EReal} {i : ι} (h : ¬ IsReal (f i)) : ¬ IsReal (∑ i, f i) := by
  classical
  intro hs
  rw [← Finset.add_sum_erase Finset.univ f (Finset.mem_univ i)] at hs
  by_cases hb : ∃ j, f j = ⊥
  · obtain ⟨j, hj⟩ := hb
    rw [Finset.add_sum_erase Finset.univ f (Finset.mem_univ i), ← Finset.add_sum_erase Finset.univ f (Finset.mem_univ j),
      hj, EReal.bot_add] at hs
    exact not_isReal_bot hs
  · have hb' : ∀ j, f j ≠ ⊥ := fun j hj => hb ⟨j, hj⟩
    have hr : ∑ j ∈ Finset.univ.erase i, f j ≠ ⊥ := by
      refine Finset.induction_on (motive := fun s => ∑ j ∈ s, f j ≠ ⊥) (Finset.univ.erase i) (by simp) ?_
      intro a s ha ih
      rw [Finset.sum_insert ha]
      simp [EReal.add_eq_bot_iff, hb' a, ih]
    rcases not_isReal h with h' | h'
    · exact hb' i h'
    · rw [h', EReal.top_add_of_ne_bot hr] at hs
      exact not_isReal_top hs

/-- Multiplying by a nonnegative real distributes over a finite sum, whatever its terms. -/
theorem sum_mul_real (f : ι → EReal) {c : ℝ} (hc : 0 ≤ c) : (∑ i, f i) * (c : EReal) = ∑ i, f i * (c : EReal) := by
  classical
  refine Finset.induction_on (motive := fun s => (∑ i ∈ s, f i) * (c : EReal) = ∑ i ∈ s, f i * (c : EReal)) Finset.univ
    (by simp) ?_
  intro a s ha ih
  rw [Finset.sum_insert ha, Finset.sum_insert ha,
    EReal.right_distrib_of_nonneg_of_ne_top (by exact_mod_cast hc) (EReal.coe_ne_top c), ih]

/-- The inclusion of the reals commutes with finite sums. -/
theorem coe_sum (f : ι → ℝ) : ((∑ i, f i : ℝ) : EReal) = ∑ i, (f i : EReal) := by
  classical
  refine Finset.induction_on (motive := fun s => ((∑ i ∈ s, f i : ℝ) : EReal) = ∑ i ∈ s, (f i : EReal)) Finset.univ
    (by simp) ?_
  intro a s ha ih
  rw [Finset.sum_insert ha, Finset.sum_insert ha, EReal.coe_add, ih]

end Sums

/-- A square is nonnegative. -/
theorem mul_self_nonneg' (x : EReal) : 0 ≤ x * x := by
  induction x with
  | bot => simp
  | top => simp
  | coe r => exact_mod_cast mul_self_nonneg r

/-! ## The constants -/

/-- The slope of the leaky rectifier, the float nearest to one fifth. -/
def slope : EReal := Ideal.ofBits FTy.f32 0x3E4CCCCD#32

/-- The number of hidden features, as both programs print it. -/
def width : EReal := Ideal.ofBits FTy.f32 0x42000000#32

/-- The number added to the variance, the float nearest to `1e-5`. -/
def eps : EReal := Ideal.ofBits FTy.f32 0x3727C5AC#32

/-- The float minus infinity, where the maxima start. -/
def low : EReal := Ideal.ofBits FTy.f32 0xFF800000#32

/-- The slope is a real number strictly between zero and one. -/
theorem slope_real : ∃ r : ℝ, 0 < r ∧ r < 1 ∧ slope = (r : EReal) := by
  refine ⟨_, ?_, ?_, by simp [slope, Ideal.ofBits, Ideal.ieee]; rfl⟩ <;> norm_num

/-- The width is the real number 32. -/
theorem width_eq : width = ((32 : ℝ) : EReal) := by
  simp [width, Ideal.ofBits, Ideal.ieee]
  rw [← EReal.coe_mul]
  norm_num

/-- The number added to the variance is a positive real. -/
theorem eps_real : ∃ r : ℝ, 0 < r ∧ eps = (r : EReal) := by
  refine ⟨_, ?_, by simp [eps, Ideal.ofBits, Ideal.ieee]; rfl⟩
  norm_num

/-- The maxima start at `⊥`. -/
theorem low_eq : low = ⊥ := by simp [low, Ideal.ofBits, Ideal.ieee]

/-- The float plus infinity is `⊤`. -/
theorem inf_eq : Ideal.ofBits FTy.f32 0x7F800000#32 = ⊤ := by simp [Ideal.ofBits, Ideal.ieee]

/-- Dividing by the width is multiplying by a thirty-second. -/
theorem div_width (x : EReal) : Ideal.div x width = x * ((1 / 32 : ℝ) : EReal) := by
  rw [width_eq, Ideal.div_coe (by norm_num)]

end Cert.Proof
-- ==== Proof.Precondition.lean ====
/- The precondition, read at an index: the five arrays it names hold real numbers. -/
module

public import proofs.«01_k».proof.Proof.Scalars
public import proofs.«01_k».proof.Pre_layer2_finite
public import Idealize.ShloMosaic.Lib.Pointwise
public import Idealize.ShloMosaic.Lib.Pipeline.ValueKit
public import Idealize.ShloMosaic.Lib.Tactic.CleanTypes

@[expose] public section

set_option maxRecDepth 16384

noncomputable section

namespace Cert.Pre_layer2_finite

open Idealize.ShloMosaic Idealize.ShloMosaic.TcCoe Idealize.SL.Sem Cert.Proof

/-- The shape relations the function's operations take. -/
instance facts : Facts where
  bcast_S_S32 := by decide
  shapeCasts_S32x1_S32 := by decide
  bcast_S_S1 := by decide
  bcast_S1_S32_0 := by decide

/-- Two bits whose conjunction is one are one. -/
theorem and_one {x y : BitVec 1} (h : IntOp.andi x y = 1#1) : x = 1#1 ∧ y = 1#1 := by
  revert x y
  decide

/-- The bit of a comparison with infinity, set: the number is real. -/
theorem real_of_bit {x : EReal}
    (h : BitVec.ofBool (decide (FloatOps.absf (F := Ideal) (φ := .f32) x < Ideal.ofBits FTy.f32 0x7F800000#32)) = 1#1) : IsReal x := by
  rw [inf_eq] at h
  by_cases hx : FloatOps.absf (F := Ideal) (φ := .f32) x < (⊤ : EReal)
  · exact isReal_of_abs_lt_top hx
  · rw [decide_eq_false hx] at h
    exact absurd h (by decide)

variable (a0 : FVec Ideal S128x100x128 .f32) (a1 : FVec Ideal S128x100x100 .f32) (a2 : FVec Ideal S128x32 .f32)
  (a3 a4 : FVec Ideal S1x32 .f32) (a5 a6 a7 : FVec Ideal S32 .f32) (a8 : FVec Ideal S32x1 .f32) (a9 a10 a11 : FVec Ideal S1 .f32)

/-- Where the function's result is all ones, the norm's scale and shift and the second layer's three weights are real. -/
theorem decode (h : fn a0 a1 a2 a3 a4 a5 a6 a7 a8 a9 a10 a11 = fun _ => 1#1) (d : Fin 32) :
    (((IsReal (a6 (ix1 d)) ∧ IsReal (a7 (ix1 d))) ∧ IsReal (a8 (ix2 d 0))) ∧ IsReal (a9 (ix1 0))) ∧ IsReal (a10 (ix1 0)) := by
  have e := congrFun h (ix1 d)
  unfold fn fn_part1 at e
  revert e
  clean_types
  pointwise
  intro e
  obtain ⟨e, h10⟩ := and_one e
  obtain ⟨e, h9⟩ := and_one e
  obtain ⟨e, h8⟩ := and_one e
  obtain ⟨h6, h7⟩ := and_one e
  exact ⟨⟨⟨⟨real_of_bit h6, real_of_bit h7⟩, real_of_bit h8⟩, real_of_bit h9⟩, real_of_bit h10⟩

end Cert.Pre_layer2_finite
-- ==== Proof.Attention.lean ====
/- The attention of one node over the nodes of its slate, as the kernel computes it and as the reference does. -/
module

public import proofs.«01_k».proof.Proof.Scalars

@[expose] public section

noncomputable section

namespace Cert.Proof

open Idealize.ShloMosaic

variable {ι : Type} [Fintype ι]

/-! ## The leaky rectifier -/

/-- The kernel's leaky rectifier: the larger of `v` and the slope times `v`. -/
def lreluK (v : EReal) : EReal := max v (slope * v)

/-- The reference's leaky rectifier: `v` where it is nonnegative, else the slope times `v`. -/
def lreluR (v : EReal) : EReal := if 0 ≤ v then v else slope * v

/-- The two rectifiers are one function. -/
theorem lrelu_eq (v : EReal) : lreluR v = lreluK v := by
  obtain ⟨c, hc0, hc1, hc⟩ := slope_real
  unfold lreluR lreluK
  rw [hc]
  induction v with
  | bot => simp [EReal.coe_mul_bot_of_pos hc0]
  | top => simp
  | coe r =>
    rw [← EReal.coe_mul]
    split_ifs with h
    · have h' : 0 ≤ r := by exact_mod_cast h
      rw [max_eq_left]
      exact_mod_cast (by nlinarith : c * r ≤ r)
    · have h' : r < 0 := by
        rw [← not_le]
        exact_mod_cast h
      rw [max_eq_right]
      exact_mod_cast (by nlinarith : r ≤ c * r)

/-- The rectifier is monotone. -/
theorem lreluK_mono : Monotone lreluK := by
  obtain ⟨c, hc0, hc1, hc⟩ := slope_real
  intro a b h
  unfold lreluK
  have h0 : (0 : EReal) ≤ slope := by
    rw [hc]
    exact_mod_cast hc0.le
  exact max_le_max h (mul_le_mul_of_nonneg_left h h0)

/-- The rectifier of a real is real. -/
theorem IsReal.lreluK {v : EReal} (h : IsReal v) : IsReal (lreluK v) := by
  obtain ⟨c, -, -, hc⟩ := slope_real
  exact h.max (IsReal.mul ⟨c, hc⟩ h)

/-! ## The weights -/

/-- The largest of the scores `d`. -/
def top (d : ι → EReal) : EReal := Finset.fold max low d Finset.univ

/-- The kernel's shift: the rectifier at the largest score. -/
def shift (s : EReal) (d : ι → EReal) : EReal := lreluK (s + top d)

/-- The kernel's weight of node `j`, before division. -/
def weightK (s : EReal) (d : ι → EReal) (j : ι) : EReal := Ideal.exp (lreluK (s + d j) - shift s d)

/-- The reference's weight of node `j`, before division: its shift is the largest of the rectified scores. -/
def weightR (s : EReal) (d : ι → EReal) (j : ι) : EReal :=
  Ideal.exp (lreluR (s + d j) - max low (top fun x => lreluR (s + d x)))

/-- The largest score bounds every score. -/
theorem le_top' (d : ι → EReal) (j : ι) : d j ≤ top d := by
  unfold top
  rw [low_eq]
  exact Finset.le_sup (f := d) (Finset.mem_univ j)

/-- The largest score is one of the scores. -/
theorem top_attained [Nonempty ι] (d : ι → EReal) : ∃ j, top d = d j := by
  unfold top
  rw [low_eq]
  obtain ⟨j, -, h⟩ := Finset.exists_mem_eq_sup Finset.univ Finset.univ_nonempty d
  exact ⟨j, h⟩

/-- The rectifier of the largest sum is the largest of the rectified sums. -/
theorem top_lrelu [Nonempty ι] (s : EReal) (d : ι → EReal) : (top fun x => lreluK (s + d x)) = shift s d := by
  apply le_antisymm
  · obtain ⟨j, h⟩ := top_attained fun x => lreluK (s + d x)
    rw [h]
    exact lreluK_mono (add_le_add le_rfl (le_top' d j))
  · obtain ⟨j, h⟩ := top_attained d
    unfold shift
    rw [h]
    exact le_top' (fun x => lreluK (s + d x)) j

/-- The two programs' weights are equal, whatever the scores. -/
theorem weight_eq [Nonempty ι] (s : EReal) (d : ι → EReal) (j : ι) : weightR s d j = weightK s d j := by
  unfold weightR weightK
  simp only [lrelu_eq, top_lrelu]
  rw [low_eq, max_eq_right bot_le]

/-- Every rectified sum is at most the shift. -/
theorem lrelu_le_shift (s : EReal) (d : ι → EReal) (j : ι) : lreluK (s + d j) ≤ shift s d :=
  lreluK_mono (add_le_add le_rfl (le_top' d j))

/-- Under an infinite shift every weight is zero. -/
theorem weightK_eq_zero {s : EReal} {d : ι → EReal} (h : ¬ IsReal (shift s d)) (j : ι) : weightK s d j = 0 := by
  have hle := lrelu_le_shift s d j
  unfold weightK
  rcases not_isReal h with h' | h'
  · rw [h'] at hle ⊢
    rw [le_bot_iff.mp hle]
    simp
  · rw [h']
    simp

/-- Under a real shift every weight is a nonnegative real. -/
theorem weightK_real {s : EReal} {d : ι → EReal} (h : IsReal (shift s d)) (j : ι) :
    ∃ r : ℝ, 0 ≤ r ∧ weightK s d j = (r : EReal) := by
  have hle := lrelu_le_shift s d j
  obtain ⟨m, hm⟩ := h
  unfold weightK
  rw [hm] at hle ⊢
  generalize lreluK (s + d j) = v at hle
  induction v with
  | bot => exact ⟨0, le_rfl, by simp⟩
  | top => simp at hle
  | coe r =>
    refine ⟨Real.exp (r - m), (Real.exp_pos _).le, ?_⟩
    rw [← EReal.coe_sub, Ideal.exp_coe]

/-- Under a real shift the weights sum to a positive real: the weight at the largest score is one. -/
theorem sum_weightK_real [Nonempty ι] {s : EReal} {d : ι → EReal} (h : IsReal (shift s d)) :
    ∃ r : ℝ, 0 < r ∧ ∑ j, weightK s d j = (r : EReal) := by
  choose w hw0 hw using weightK_real h
  refine ⟨∑ j, w j, ?_, by rw [coe_sum]; simp only [hw]⟩
  obtain ⟨j, hj⟩ := top_attained d
  obtain ⟨m, hm⟩ := h
  refine Finset.sum_pos' (fun i _ => hw0 i) ⟨j, Finset.mem_univ j, ?_⟩
  have h1 : weightK s d j = ((1 : ℝ) : EReal) := by
    have h2 : lreluK (s + d j) = shift s d := by
      unfold shift
      rw [hj]
    unfold weightK
    rw [h2, hm, ← EReal.coe_sub, Ideal.exp_coe]
    simp
  rw [hw j] at h1
  have : w j = 1 := by exact_mod_cast h1
  rw [this]
  exact one_pos

/-! ## The weighted means -/

/-- The kernel's attention: the weighted sum of the values over the sum of the weights, both sums against columns of a
    product, the second column being ones. -/
def attendK (s : EReal) (d v : ι → EReal) : EReal :=
  Ideal.div (∑ j, weightK s d j * v j) (∑ j, weightK s d j * 1)

/-- The reference's attention: the sum of the values times the divided weights. -/
def attendR (s : EReal) (d v : ι → EReal) : EReal :=
  ∑ j, Ideal.div (weightR s d j) (∑ x, weightR s d x) * v j

/-- Under a real shift the two attentions are equal, whatever the values. -/
theorem attend_eq [Nonempty ι] {s : EReal} {d : ι → EReal} (h : IsReal (shift s d)) (v : ι → EReal) :
    attendR s d v = attendK s d v := by
  obtain ⟨r, hr, hs⟩ := sum_weightK_real h
  unfold attendR attendK
  simp only [weight_eq, mul_one, hs]
  rw [Ideal.div_coe hr.ne', sum_mul_real _ (by positivity)]
  refine Finset.sum_congr rfl fun j _ => ?_
  rw [Ideal.div_coe hr.ne', mul_right_comm]

/-- Under an infinite shift the kernel's attention is the quotient of zero by zero, `⊥`. -/
theorem attendK_bot {s : EReal} {d : ι → EReal} (h : ¬ IsReal (shift s d)) (v : ι → EReal) : attendK s d v = ⊥ := by
  unfold attendK
  simp only [weightK_eq_zero h]
  simp [Ideal.div]

/-- Under an infinite shift the reference's attention to values not all zero is infinite. -/
theorem attendR_infinite [Nonempty ι] {s : EReal} {d : ι → EReal} (h : ¬ IsReal (shift s d)) {v : ι → EReal} {j : ι}
    (hv : v j ≠ 0) : ¬ IsReal (attendR s d v) := by
  unfold attendR
  simp only [weight_eq, weightK_eq_zero h, Finset.sum_const_zero]
  refine not_isReal_sum (i := j) ?_
  have h0 : Ideal.div 0 0 = ⊥ := by simp [Ideal.div]
  rw [h0]
  rcases lt_or_gt_of_ne hv with h' | h'
  · rw [EReal.bot_mul_of_neg h']
    exact not_isReal_top
  · rw [EReal.bot_mul_of_pos h']
    exact not_isReal_bot

/-- Real scores have a real shift. -/
theorem shift_real [Nonempty ι] {s : EReal} {d : ι → EReal} (hs : IsReal s) (hd : ∀ j, IsReal (d j)) :
    IsReal (shift s d) := by
  obtain ⟨j, hj⟩ := top_attained d
  unfold shift
  rw [hj]
  exact (hs.add (hd j)).lreluK

end Cert.Proof
-- ==== Proof.Norm.lean ====
/- The layer norm over one node's features, as the kernel computes it and as the reference does. -/
module

public import proofs.«01_k».proof.Proof.Scalars

@[expose] public section

noncomputable section

namespace Cert.Proof

open Idealize.ShloMosaic

variable {κ : Type} [Fintype κ]

/-- The mean of the features. -/
def mean (u : κ → EReal) : EReal := Ideal.div (∑ d, u d) width

/-- The variance of the features. -/
def var (u : κ → EReal) : EReal := Ideal.div (∑ d, (u d - mean u) * (u d - mean u)) width

/-- The kernel's norm: the centred feature times the reciprocal square root, scaled and shifted. -/
def normK (u ga be : κ → EReal) (d : κ) : EReal := (u d - mean u) * Ideal.rsqrt (var u + eps) * ga d + be d

/-- The reference's norm: the centred feature over the square root, scaled and shifted. -/
def normR (u ga be : κ → EReal) (d : κ) : EReal := Ideal.div (u d - mean u) (Ideal.sqrt (var u + eps)) * ga d + be d

/-- With every centred feature real, the variance is a nonnegative real. -/
theorem var_real {u : κ → EReal} (h : ∀ d, IsReal (u d - mean u)) : ∃ r : ℝ, 0 ≤ r ∧ var u = (r : EReal) := by
  choose c hc using h
  refine ⟨(∑ d, c d * c d) * (1 / 32), ?_, ?_⟩
  · exact mul_nonneg (Finset.sum_nonneg fun d _ => mul_self_nonneg _) (by norm_num)
  · unfold var
    simp only [hc, div_width, ← EReal.coe_mul]
    rw [← coe_sum, ← EReal.coe_mul]

/-- With some centred feature infinite, the variance is `⊤`. -/
theorem var_top {u : κ → EReal} {d : κ} (h : ¬ IsReal (u d - mean u)) : var u = ⊤ := by
  have hsum : ∑ x, (u x - mean u) * (u x - mean u) = ⊤ := by
    have h1 : ¬ IsReal (∑ x, (u x - mean u) * (u x - mean u)) := by
      refine not_isReal_sum (i := d) ?_
      rcases not_isReal h with h' | h' <;> rw [h'] <;> simp [not_isReal_top]
    have h2 : 0 ≤ ∑ x, (u x - mean u) * (u x - mean u) := Finset.sum_nonneg fun x _ => mul_self_nonneg' _
    rcases not_isReal h1 with h' | h'
    · rw [h'] at h2
      simp at h2
    · exact h'
  unfold var
  rw [hsum, div_width]
  exact EReal.top_mul_coe_of_pos (by norm_num)

/-- The two norms are equal, whatever the features. -/
theorem norm_eq (u ga be : κ → EReal) (d : κ) : normR u ga be d = normK u ga be d := by
  obtain ⟨e, he, hee⟩ := eps_real
  unfold normR normK
  by_cases h : ∀ d, IsReal (u d - mean u)
  · obtain ⟨r, hr, hv⟩ := var_real h
    have hp : 0 < r + e := by linarith
    have hq : Real.sqrt (r + e) ≠ 0 := (Real.sqrt_pos.mpr hp).ne'
    rw [hv, hee, ← EReal.coe_add, Ideal.sqrt_coe, Ideal.rsqrt_coe, if_neg (by linarith), if_neg (by linarith),
      if_neg hp.ne', Ideal.div_coe hq, one_div]
  · push Not at h
    obtain ⟨x, hx⟩ := h
    rw [var_top hx, hee, EReal.top_add_coe, Ideal.sqrt_top, Ideal.rsqrt_top]
    simp [Ideal.div]

/-- With some centred feature infinite, the kernel's norm is its shift alone. -/
theorem normK_of_infinite {u : κ → EReal} {x : κ} (h : ¬ IsReal (u x - mean u)) (ga be : κ → EReal) (d : κ) :
    normK u ga be d = be d := by
  obtain ⟨e, he, hee⟩ := eps_real
  unfold normK
  rw [var_top h, hee, EReal.top_add_coe, Ideal.rsqrt_top]
  simp

/-- With some feature infinite, some centred feature is infinite. -/
theorem cent_infinite {u : κ → EReal} {x : κ} (h : ¬ IsReal (u x)) : ¬ IsReal (u x - mean u) := by
  have hm : mean u = ⊥ ∨ mean u = ⊤ := by
    unfold mean
    rw [div_width]
    rcases not_isReal (not_isReal_sum (f := u) h) with h' | h' <;> rw [h']
    · exact .inl (EReal.bot_mul_coe_of_pos (by norm_num))
    · exact .inr (EReal.top_mul_coe_of_pos (by norm_num))
  rcases hm with hm | hm <;> rcases not_isReal h with hu | hu <;> rw [hm, hu] <;>
    simp [not_isReal_bot, not_isReal_top]

/-- With some feature infinite, the kernel's norm is its shift alone. -/
theorem normK_wash {u : κ → EReal} {x : κ} (h : ¬ IsReal (u x)) (ga be : κ → EReal) (d : κ) :
    normK u ga be d = be d := normK_of_infinite (cent_infinite h) ga be d

/-- With a real scale and shift the norm is real, whatever the features. -/
theorem normK_real (u : κ → EReal) {ga be : κ → EReal} {d : κ} (hg : IsReal (ga d)) (hb : IsReal (be d)) :
    IsReal (normK u ga be d) := by
  obtain ⟨e, he, hee⟩ := eps_real
  by_cases h : ∀ d, IsReal (u d - mean u)
  · obtain ⟨r, hr, hv⟩ := var_real h
    have hp : 0 < r + e := by linarith
    unfold normK
    refine (((h d).mul ?_).mul hg).add hb
    rw [hv, hee, ← EReal.coe_add, Ideal.rsqrt_coe, if_neg (by linarith), if_neg hp.ne']
    exact ⟨_, rfl⟩
  · push Not at h
    obtain ⟨x, hx⟩ := h
    rw [normK_of_infinite hx]
    exact hb

end Cert.Proof
-- ==== Proof.Network.lean ====
/- The two-layer network on one slate of nodes, as the kernel computes it and as the reference does, and their equality. -/
module

public import proofs.«01_k».proof.Proof.Attention
public import proofs.«01_k».proof.Proof.Norm

@[expose] public section

noncomputable section

namespace Cert.Proof

open Idealize.ShloMosaic

variable {ι δ κ : Type} [Fintype ι] [Fintype δ] [Fintype κ]

/-! ## The first layer -/

/-- The hidden features: the slate's rows against the first weight. -/
def hidden (X : ι → δ → EReal) (W : δ → κ → EReal) (i : ι) (d : κ) : EReal := ∑ k, X i k * W k d

/-- A node's score: its features against an attention vector. -/
def score (h : ι → κ → EReal) (a : κ → EReal) (i : ι) : EReal := ∑ d, h i d * a d

/-- The kernel's first attention, with its bias. -/
def out1K (h : ι → κ → EReal) (ws wd b : κ → EReal) (i : ι) (d : κ) : EReal :=
  attendK (score h ws i) (score h wd) (fun j => h j d) + b d

/-- The reference's first attention, with its bias. -/
def out1R (h : ι → κ → EReal) (ws wd b : κ → EReal) (i : ι) (d : κ) : EReal :=
  attendR (score h ws i) (score h wd) (fun j => h j d) + b d

/-- The kernel's second hidden feature: the normed first layer against the second weight. -/
def hidden2K (h : ι → κ → EReal) (ws wd b ga be w : κ → EReal) (i : ι) : EReal :=
  ∑ d, normK (out1K h ws wd b i) ga be d * w d

/-- The reference's second hidden feature. -/
def hidden2R (h : ι → κ → EReal) (ws wd b ga be w : κ → EReal) (i : ι) : EReal :=
  ∑ d, normR (out1R h ws wd b i) ga be d * w d

/-- An infinite shift of the first layer needs a feature that is not zero. -/
theorem exists_ne_zero [Nonempty ι] {h : ι → κ → EReal} {ws wd : κ → EReal} {i : ι}
    (hs : ¬ IsReal (shift (score h ws i) (score h wd))) : ∃ j d, h j d ≠ 0 := by
  by_contra hc
  push Not at hc
  apply hs
  apply shift_real
  · simpa [score, hc] using isReal_zero
  · intro j
    simpa [score, hc] using isReal_zero

/-- The second hidden features are equal, whatever the first layer holds. Under an infinite shift the two attentions
    differ, but each leaves a feature infinite, and the norm then returns its shift alone. -/
theorem hidden2_eq [Nonempty ι] (h : ι → κ → EReal) (ws wd b ga be w : κ → EReal) (i : ι) :
    hidden2R h ws wd b ga be w i = hidden2K h ws wd b ga be w i := by
  unfold hidden2R hidden2K
  simp only [norm_eq]
  by_cases hs : IsReal (shift (score h ws i) (score h wd))
  · have he : out1R h ws wd b i = out1K h ws wd b i := by
      funext d
      unfold out1R out1K
      rw [attend_eq hs]
    rw [he]
  · obtain ⟨j, d, hjd⟩ := exists_ne_zero hs
    have hK : ¬ IsReal (out1K h ws wd b i d) := by
      unfold out1K
      rw [attendK_bot hs, EReal.bot_add]
      exact not_isReal_bot
    have hR : ¬ IsReal (out1R h ws wd b i d) := by
      have ha := attendR_infinite hs (v := fun j => h j d) hjd
      unfold out1R
      generalize attendR (score h ws i) (score h wd) (fun j => h j d) = a at ha
      intro hr
      rw [isReal_iff, Ne, EReal.add_eq_bot_iff] at hr
      rcases not_isReal ha with h' | h'
      · exact hr.1 (.inl h')
      · exact hr.2 (by rw [h', EReal.top_add_of_ne_bot fun hb => hr.1 (.inr hb)])
    refine Finset.sum_congr rfl fun x _ => ?_
    rw [normK_wash hK, normK_wash hR]

/-- With a real scale, shift and second weight the second hidden features are real, whatever the first layer holds. -/
theorem hidden2K_real (h : ι → κ → EReal) (ws wd b : κ → EReal) {ga be w : κ → EReal} (hg : ∀ d, IsReal (ga d))
    (hb : ∀ d, IsReal (be d)) (hw : ∀ d, IsReal (w d)) (i : ι) : IsReal (hidden2K h ws wd b ga be w i) :=
  isReal_sum fun d => (normK_real _ (hg d) (hb d)).mul (hw d)

/-! ## The second layer -/

/-- The kernel's exponential linear unit. -/
def eluK (y : EReal) : EReal := if 0 < y then y else Ideal.exp y - 1

/-- The reference's exponential linear unit: it exponentiates zero where it does not use the exponential. -/
def eluR (y : EReal) : EReal := if 0 < y then y else Ideal.exp (if 0 < y then 0 else y) - 1

/-- The two units are one function. -/
theorem elu_eq (y : EReal) : eluR y = eluK y := by
  unfold eluR eluK
  split_ifs <;> rfl

/-- The kernel's result at node `i`, of the second hidden features `g`. -/
def out2K (g : ι → EReal) (ws wd b : EReal) (i : ι) : EReal :=
  eluK (attendK (ws * g i) (fun j => wd * g j) g + b)

/-- The reference's result at node `i`. -/
def out2R (g : ι → EReal) (ws wd b : EReal) (i : ι) : EReal :=
  eluR (attendR (g i * ws) (fun j => g j * wd) g + b)

/-- With real features and attention scalars the second layers are equal. -/
theorem out2_eq [Nonempty ι] {g : ι → EReal} {ws wd : EReal} (hg : ∀ i, IsReal (g i)) (hws : IsReal ws)
    (hwd : IsReal wd) (b : EReal) (i : ι) : out2R g ws wd b i = out2K g ws wd b i := by
  unfold out2R out2K
  rw [elu_eq, attend_eq (shift_real ((hg i).mul hws) fun j => (hg j).mul hwd), mul_comm (g i) ws]
  simp only [mul_comm _ wd]

/-! ## The network -/

/-- The kernel's network on one slate. -/
def netK (X : ι → δ → EReal) (W : δ → κ → EReal) (ws wd b ga be w : κ → EReal) (ws2 wd2 b2 : EReal) (i : ι) : EReal :=
  out2K (hidden2K (hidden X W) ws wd b ga be w) ws2 wd2 b2 i

/-- The reference's network on one slate. -/
def netR (X : ι → δ → EReal) (W : δ → κ → EReal) (ws wd b ga be w : κ → EReal) (ws2 wd2 b2 : EReal) (i : ι) : EReal :=
  out2R (hidden2R (hidden X W) ws wd b ga be w) ws2 wd2 b2 i

/-- The two networks are equal where the norm's scale and shift and the second layer's weights are real; the slate, the
    first layer's weights and both biases may be anything. -/
theorem net_eq [Nonempty ι] (X : ι → δ → EReal) (W : δ → κ → EReal) (ws wd b : κ → EReal) {ga be w : κ → EReal}
    {ws2 wd2 : EReal} (hg : ∀ d, IsReal (ga d)) (hb : ∀ d, IsReal (be d)) (hw : ∀ d, IsReal (w d)) (hws : IsReal ws2)
    (hwd : IsReal wd2) (b2 : EReal) (i : ι) :
    netR X W ws wd b ga be w ws2 wd2 b2 i = netK X W ws wd b ga be w ws2 wd2 b2 i := by
  unfold netR netK
  have he : hidden2R (hidden X W) ws wd b ga be w = hidden2K (hidden X W) ws wd b ga be w := by
    funext j
    exact hidden2_eq _ _ _ _ _ _ _ j
  rw [he]
  exact out2_eq (hidden2K_real _ _ _ _ hg hb hw) hws hwd b2 i

end Cert.Proof
-- ==== Proof.KernelBlock.lean ====
/- What the kernel's body stores into its output block, read at an index: the network on one slate. -/
module

public import proofs.«01_k».proof.Proof.Network
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.Block

open Cert.KernelIdeal Cert.KernelIdeal.Gen Idealize.ShloMosaic Idealize.ShloMosaic.TcCoe Idealize.SL.Sem Cert.Proof

section Layer1

variable (x : Vec Ideal S64x100x128 .bf16) (W : Vec Ideal S128x32 .f32) (ws wd : Vec Ideal S1x32 .f32)

/-- The features of one slate of the block. -/
abbrev feat (b : Fin 64) : Fin 100 → Fin 32 → EReal := hidden (fun j k => x (ix3 b j k)) (fun k d => W (ix2 k d))

/-- The product's first columns: the weighted sums of the features. -/
theorem pay4_eq (b : Fin 64) (i : Fin 100) (d : Fin 32) :
    k0_pay4 x W ws wd (ix3 b i d)
      = ∑ j, weightK (score (feat x W b) (fun d => ws (ix2 0 d)) i) (score (feat x W b) fun d => wd (ix2 0 d)) j
          * feat x W b j d := by
  pointwise [k0_pay4, k0_pay3]
  rfl

/-- The product's last column, copied: the sum of the weights. -/
theorem pay5_eq (b : Fin 64) (i : Fin 100) (d : Fin 32) :
    k0_pay5 x W ws wd (ix3 b i d)
      = ∑ j, weightK (score (feat x W b) (fun d => ws (ix2 0 d)) i) (score (feat x W b) fun d => wd (ix2 0 d)) j := by
  pointwise [k0_pay5, k0_pay3, k0_pay2]
  rfl

end Layer1

/-- The second hidden feature, of the two parts of the first attention's quotient. -/
theorem pay6_eq (v39 v41 : FVec Ideal S64x100x32 .f32) (v43 v64 v69 v74 : Vec Ideal S1x32 .f32) (b : Fin 64)
    (i : Fin 100) :
    k0_pay6 v39 v41 v43 v64 v69 v74 (ix3 b i 0)
      = ∑ d, normK (fun d => Ideal.div (v39 (ix3 b i d)) (v41 (ix3 b i d)) + v43 (ix2 0 d)) (fun d => v64 (ix2 0 d))
          (fun d => v69 (ix2 0 d)) d * v74 (ix2 0 d) := by
  pointwise [k0_pay6]
  rfl

/-- The source score of the second layer. -/
theorem pay7_eq (v39 v41 : FVec Ideal S64x100x32 .f32) (v43 v64 v69 v74 : Vec Ideal S1x32 .f32) (v81 : Vec Ideal S1x1 .f32)
    (b : Fin 64) (i : Fin 100) :
    k0_pay7 v39 v41 v43 v64 v69 v74 v81 (ix3 b i 0) = v81 (ix2 0 0) * k0_pay6 v39 v41 v43 v64 v69 v74 (ix3 b i 0) := by
  pointwise [k0_pay7]

/-- The column of ones. -/
theorem pay2_eq (b : Fin 64) (i : Fin 100) : k0_pay2 (F := Ideal) (ix3 b i 0) = (1 : EReal) := by
  pointwise [k0_pay2]

/-- The stored value, of the second hidden feature `v80` and the source score `v84`. -/
theorem pay1_eq (v36 v80 v84 : FVec Ideal S64x100x1 .f32) (v85 v113 : Vec Ideal S1x1 .f32) (b : Fin 64) (i : Fin 100) :
    k0_pay1 v36 v80 v84 v85 v113 (ix2 b i)
      = eluK (Ideal.div
            (∑ j, weightK (v84 (ix3 b i 0)) (fun j => v85 (ix2 0 0) * v80 (ix3 b j 0)) j * v80 (ix3 b j 0))
            (∑ j, weightK (v84 (ix3 b i 0)) (fun j => v85 (ix2 0 0) * v80 (ix3 b j 0)) j * v36 (ix3 b j 0))
          + v113 (ix2 0 0)) := by
  pointwise [k0_pay1]
  rfl

/-- What the body leaves in its output block, of the blocks of its eleven inputs: the kernel's network on each slate. -/
theorem out_eq (x : Vec Ideal S64x100x128 .bf16) (W : Vec Ideal S128x32 .f32) (ws wd b1 ga be w2 : Vec Ideal S1x32 .f32)
    (ws2 wd2 b2 : Vec Ideal S1x1 .f32) (b : Fin 64) (i : Fin 100) :
    out0_11 x W ws wd b1 ga be w2 ws2 wd2 b2 (ix2 b i)
      = netK (fun j k => x (ix3 b j k)) (fun k d => W (ix2 k d)) (fun d => ws (ix2 0 d)) (fun d => wd (ix2 0 d))
          (fun d => b1 (ix2 0 d)) (fun d => ga (ix2 0 d)) (fun d => be (ix2 0 d)) (fun d => w2 (ix2 0 d))
          (ws2 (ix2 0 0)) (wd2 (ix2 0 0)) (b2 (ix2 0 0)) i := by
  have h2 : ∀ j, k0_pay6 (k0_pay4 x W ws wd) (k0_pay5 x W ws wd) b1 ga be w2 (ix3 b j 0)
      = hidden2K (feat x W b) (fun d => ws (ix2 0 d)) (fun d => wd (ix2 0 d)) (fun d => b1 (ix2 0 d))
          (fun d => ga (ix2 0 d)) (fun d => be (ix2 0 d)) (fun d => w2 (ix2 0 d)) j := by
    intro j
    rw [pay6_eq]
    simp only [pay4_eq, pay5_eq]
    unfold hidden2K out1K attendK
    simp only [mul_one]
  unfold_out out0_11
  frame_out
  rw [pay1_eq]
  simp only [pay7_eq, pay2_eq, h2]
  rfl

end Cert.Proof.Block
-- ==== Proof.KernelArray.lean ====
/- The array the kernel's grid leaves behind: at a slate and a row, the network on that slate, of the arrays the run
   starts with. -/
module

public import proofs.«01_k».proof.Proof.KernelBlock
public import Idealize.ShloMosaic.Lib.Claim

@[expose] public section

set_option maxRecDepth 16384

noncomputable section

namespace Cert.Proof.Array

open Cert.KernelIdeal Cert.KernelIdeal.Gen Idealize.ShloMosaic Idealize.ShloMosaic.TcCoe Idealize.SL.Sem Cert.Proof
open Idealize.ShloMosaic.Pipeline (Dat)

variable (m : (ℓ : Loc nD τ sig) → Buf (Elt Ideal) ℓ) (c : Dev nD)

/-- The network on slate `b`, row `i`, of the argument arrays. -/
def net (b : Fin 128) (i : Fin 100) : EReal :=
  netK (fun j k => m (c.tc.loc main_arg0) (ix3 b j k)) (fun k d => m (c.tc.loc main_arg2) (ix2 k d))
    (fun d => m (c.tc.loc main_arg3) (ix2 0 d)) (fun d => m (c.tc.loc main_arg4) (ix2 0 d))
    (fun d => m (c.tc.loc main_arg5) (ix1 d)) (fun d => m (c.tc.loc main_arg6) (ix1 d))
    (fun d => m (c.tc.loc main_arg7) (ix1 d)) (fun d => m (c.tc.loc main_arg8) (ix2 d 0))
    (m (c.tc.loc main_arg9) (ix1 0)) (m (c.tc.loc main_arg10) (ix1 0)) (m (c.tc.loc main_arg11) (ix1 0)) i

/-- Where the grid's windows lie: the rows and the result move along with the grid, a block of 64 slates at each point;
    every other window stays where it is. -/
theorem idx : ∀ t : Fin cfg0.N, win0_0.index t = ![t.1, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.1, 0] ∧ t.1 < 2 :=
  (by decide +kernel : ∀ t : Fin grid0.N, _)

/-- A block's slate is a slate of the array. -/
theorem slate_lt (t : Fin cfg0.N) (b : Fin 64) : t.1 * 64 + b.1 < 128 := by
  have := (idx t).2.2.2.2.2.2.2.2.2.2.2.2
  omega

/-! ## What the blocks hold: one argument array each -/

/-- The rows: the block's slates of the array. -/
theorem read0 (t : Fin cfg0.N) (b : Fin 64) (j : Fin 100) (k : Fin 128) :
    iblk m c 0 t (ix3 b j k) = m (c.tc.loc main_arg0) (ix3 ⟨t.1 * 64 + b.1, slate_lt t b⟩ j k) := by
  blk_point [iblk, V, idx t]

/-- The first weight. -/
theorem read1 (t : Fin cfg0.N) (k : Fin 128) (d : Fin 32) :
    iblk m c 1 t (ix2 k d) = m (c.tc.loc main_arg2) (ix2 k d) := by
  blk_point [iblk, V, idx t]

/-- The first attention's source vector. -/
theorem read2 (t : Fin cfg0.N) (d : Fin 32) : iblk m c 2 t (ix2 0 d) = m (c.tc.loc main_arg3) (ix2 0 d) := by
  blk_point [iblk, V, idx t]

/-- The first attention's destination vector. -/
theorem read3 (t : Fin cfg0.N) (d : Fin 32) : iblk m c 3 t (ix2 0 d) = m (c.tc.loc main_arg4) (ix2 0 d) := by
  blk_point [iblk, V, idx t]

/-- The first bias, reshaped to a row. -/
theorem read4 (t : Fin cfg0.N) (d : Fin 32) : iblk m c 4 t (ix2 0 d) = m (c.tc.loc main_arg5) (ix1 d) := by
  have e : iblk m c 4 t (ix2 0 d) = V m c main_v1 (ix2 0 d) := by blk_point [iblk, idx t]
  rw [e]
  unfold V V0
  simp only [hostOps0, List.flatten_cons, List.flatten_nil, List.append_nil, List.cons_append, List.nil_append]
  after_results
  pointwise

/-- The norm's scale, reshaped to a row. -/
theorem read5 (t : Fin cfg0.N) (d : Fin 32) : iblk m c 5 t (ix2 0 d) = m (c.tc.loc main_arg6) (ix1 d) := by
  have e : iblk m c 5 t (ix2 0 d) = V m c main_v2 (ix2 0 d) := by blk_point [iblk, idx t]
  rw [e]
  unfold V V0
  simp only [hostOps0, List.flatten_cons, List.flatten_nil, List.append_nil, List.cons_append, List.nil_append]
  after_results
  pointwise

/-- The norm's shift, reshaped to a row. -/
theorem read6 (t : Fin cfg0.N) (d : Fin 32) : iblk m c 6 t (ix2 0 d) = m (c.tc.loc main_arg7) (ix1 d) := by
  have e : iblk m c 6 t (ix2 0 d) = V m c main_v3 (ix2 0 d) := by blk_point [iblk, idx t]
  rw [e]
  unfold V V0
  simp only [hostOps0, List.flatten_cons, List.flatten_nil, List.append_nil, List.cons_append, List.nil_append]
  after_results
  pointwise

/-- The second weight, reshaped to a row. -/
theorem read7 (t : Fin cfg0.N) (d : Fin 32) : iblk m c 7 t (ix2 0 d) = m (c.tc.loc main_arg8) (ix2 d 0) := by
  have e : iblk m c 7 t (ix2 0 d) = V m c main_v4 (ix2 0 d) := by blk_point [iblk, idx t]
  rw [e]
  unfold V V0
  simp only [hostOps0, List.flatten_cons, List.flatten_nil, List.append_nil, List.cons_append, List.nil_append]
  after_results
  pointwise

/-- The second attention's source scalar, reshaped to a row. -/
theorem read8 (t : Fin cfg0.N) : iblk m c 8 t (ix2 0 0) = m (c.tc.loc main_arg9) (ix1 0) := by
  have e : iblk m c 8 t (ix2 0 0) = V m c main_v5 (ix2 0 0) := by blk_point [iblk, idx t]
  rw [e]
  unfold V V0
  simp only [hostOps0, List.flatten_cons, List.flatten_nil, List.append_nil, List.cons_append, List.nil_append]
  after_results
  pointwise

/-- The second attention's destination scalar, reshaped to a row. -/
theorem read9 (t : Fin cfg0.N) : iblk m c 9 t (ix2 0 0) = m (c.tc.loc main_arg10) (ix1 0) := by
  have e : iblk m c 9 t (ix2 0 0) = V m c main_v6 (ix2 0 0) := by blk_point [iblk, idx t]
  rw [e]
  unfold V V0
  simp only [hostOps0, List.flatten_cons, List.flatten_nil, List.append_nil, List.cons_append, List.nil_append]
  after_results
  pointwise

/-- The second bias, reshaped to a row. -/
theorem read10 (t : Fin cfg0.N) : iblk m c 10 t (ix2 0 0) = m (c.tc.loc main_arg11) (ix1 0) := by
  have e : iblk m c 10 t (ix2 0 0) = V m c main_v7 (ix2 0 0) := by blk_point [iblk, idx t]
  rw [e]
  unfold V V0
  simp only [hostOps0, List.flatten_cons, List.flatten_nil, List.append_nil, List.cons_append, List.nil_append]
  after_results
  pointwise

/-- A cell of the result's block is a cell of the array. -/
theorem cell (t : Fin cfg0.N) (b : Fin 64) (i : Fin 100) (G : S128x100.Idx → EReal) :
    G ((win0_11.blk t).view.emb (ix2 b i)) = G (ix2 ⟨t.1 * 64 + b.1, slate_lt t b⟩ i) := by
  blk_ext [idx t]

/-! ## The array -/

/-- What the body stores at a grid point, read at a cell: the network on that slate. -/
theorem point (t : Fin cfg0.N) (b : Fin 64) (i : Fin 100) :
    out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 b i) = net m c ⟨t.1 * 64 + b.1, slate_lt t b⟩ i := by
  rw [Block.out_eq]
  unfold net
  simp only [read0, read1, read2, read3, read4, read5, read6, read7, read8, read9, read10]

/-- The array after the grid: at a slate and a row, the network. -/
theorem array : (dats m 0 c).arrAt 11 cfg0.N = fun j : S128x100.Idx => net m c (j 0) (j 1) := by
  refine (dats m 0 c).arrAt_eq_of_covers 11 _ (by decide +kernel) fun t hf y => ?_
  blk_simp
  rw [after0_11]
  idx_vars y
  exact (point m c t y0 y1).trans (cell t y0 y1 fun j => net m c (j 0) (j 1)).symm

/-- The result: the array with an axis of size one at its end. -/
theorem result : Pipeline.afterTail₀ cfgs (dats m) 0 (V0 m) [hostOps1] c main_v9
    = fun j : S128x100x1.Idx => net m c (j 0) (j 1) := by
  unfold Pipeline.afterTail₀
  simp only [hostOps1, List.flatten_cons, List.flatten_nil, List.append_nil, List.cons_append, List.nil_append]
  after_results
  have e : Pipeline.withArrays (cfgs 0).spec c (V0 m c) (fun w => (dats m 0 c).arrAt w (cfgs 0).N) (Proc.devRef .tc main_v8)
      = (dats m 0 c).arrAt 11 cfg0.N :=
    Pipeline.withArrays_arr (cfgs 0).spec (by decide) c (V0 m c) (fun w => (dats m 0 c).arrAt w (cfgs 0).N) 11
  rw [e, array]
  funext j
  idx_vars j
  show shapeCast S128x100x1 (fun j : S128x100.Idx => net m c (j 0) (j 1)) shapeCasts_S128x100_S128x100x1 _ = _
  pointwise

variable (g : Dev nD → PrngReg)

/-- Every run of the kernel ends with the network in its result, and its arguments as they were. -/
theorem run : θ_run defs (onTc (τ := τ) (main (F := Ideal))) ⟨m, fun _ => 0, g⟩ fun r => ∀ c : Dev nD,
    r.2.mem (c.tc.loc main_v9) = (fun j : S128x100x1.Idx => net m c (j 0) (j 1))
    ∧ r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3)
    ∧ r.2.mem (c.tc.loc main_arg4) = m (c.tc.loc main_arg4) ∧ r.2.mem (c.tc.loc main_arg5) = m (c.tc.loc main_arg5)
    ∧ r.2.mem (c.tc.loc main_arg6) = m (c.tc.loc main_arg6) ∧ r.2.mem (c.tc.loc main_arg7) = m (c.tc.loc main_arg7)
    ∧ r.2.mem (c.tc.loc main_arg8) = m (c.tc.loc main_arg8) ∧ r.2.mem (c.tc.loc main_arg9) = m (c.tc.loc main_arg9)
    ∧ r.2.mem (c.tc.loc main_arg10) = m (c.tc.loc main_arg10) ∧ r.2.mem (c.tc.loc main_arg11) = m (c.tc.loc main_arg11) :=
  (θ_run defs _ _).mono
    (fun _ h c => ⟨((h.1 c).2 main_v9 (Pipeline.mem_restRefs_of main_v9 (by decide) (by decide))).trans (result m c), h.2 c⟩)
    (θ_run_and (run_main m g) (unchanged m g))

end Cert.Proof.Array
-- ==== Proof.ReferenceRead.lean ====
/- What the reference computes, read at an index: the network on one slate, one lemma per named value of its run. -/
module

public import proofs.«01_k».proof.Proof.Network
public import proofs.«01_k».proof.Proof.Gen.ReferenceIdeal.Run
public import Idealize.ShloMosaic.Lib.Pointwise
public import Idealize.ShloMosaic.Lib.Pipeline.ValueKit
public import Idealize.ShloMosaic.Lib.Tactic.CleanTypes

@[expose] public section

set_option maxRecDepth 16384

noncomputable section

namespace Cert.Proof.Read

open Cert.ReferenceIdeal Cert.ReferenceIdeal.Gen Cert.ReferenceIdeal.Value Idealize.ShloMosaic Idealize.ShloMosaic.TcCoe
open Idealize.SL.Sem Cert.Proof

variable (V : Valuation τ sig (Elt Ideal)) (b : Fin 128)

/-- The slate's rows. -/
abbrev X : Fin 100 → Fin 128 → EReal := fun j k => V (Proc.devRef .tc main_arg0) (ix3 b j k)

/-- The first weight. -/
abbrev W : Fin 128 → Fin 32 → EReal := fun k d => V (Proc.devRef .tc main_arg2) (ix2 k d)

/-- The first attention's source vector. -/
abbrev ws : Fin 32 → EReal := fun d => V (Proc.devRef .tc main_arg3) (ix2 0 d)

/-- The first attention's destination vector. -/
abbrev wd : Fin 32 → EReal := fun d => V (Proc.devRef .tc main_arg4) (ix2 0 d)

/-- The first bias. -/
abbrev b1 : Fin 32 → EReal := fun d => V (Proc.devRef .tc main_arg5) (ix1 d)

/-- The norm's scale. -/
abbrev ga : Fin 32 → EReal := fun d => V (Proc.devRef .tc main_arg6) (ix1 d)

/-- The norm's shift. -/
abbrev be : Fin 32 → EReal := fun d => V (Proc.devRef .tc main_arg7) (ix1 d)

/-- The second weight. -/
abbrev w2 : Fin 32 → EReal := fun d => V (Proc.devRef .tc main_arg8) (ix2 d 0)

/-- The second attention's source scalar. -/
abbrev ws2 : EReal := V (Proc.devRef .tc main_arg9) (ix1 0)

/-- The second attention's destination scalar. -/
abbrev wd2 : EReal := V (Proc.devRef .tc main_arg10) (ix1 0)

/-- The second bias. -/
abbrev b2 : EReal := V (Proc.devRef .tc main_arg11) (ix1 0)

/-- The slate's hidden features. -/
abbrev feat : Fin 100 → Fin 32 → EReal := hidden (X V b) (W V)

/-- The slate's first attention, with its bias. -/
abbrev first : Fin 100 → Fin 32 → EReal := out1R (feat V b) (ws V) (wd V) (b1 V)

/-- The slate's second hidden features. -/
abbrev second : Fin 100 → EReal := hidden2R (feat V b) (ws V) (wd V) (b1 V) (ga V) (be V) (w2 V)

/-! ## The first attention -/

/-- The hidden features. -/
theorem v2_eq (i : Fin 100) (d : Fin 32) : res_main_v2 (F := Ideal) V (ix4 b i 0 d) = feat V b i d := by
  unfold res_main_v2
  clean_types
  pointwise
  rfl

/-- The sums of a source and a destination score. -/
theorem v15_eq (i j : Fin 100) :
    res_main_v15 (F := Ideal) V (ix4 b i j 0) = score (feat V b) (ws V) i + score (feat V b) (wd V) j := by
  unfold res_main_v15
  clean_types
  pointwise
  simp only [v2_eq]
  rfl

/-- The rectified sums. -/
theorem v16_eq (i j : Fin 100) :
    res_main_v16 (F := Ideal) V (ix4 b i j 0) = lreluR (score (feat V b) (ws V) i + score (feat V b) (wd V) j) := by
  unfold res_main_v16
  clean_types
  pointwise
  rw [v15_eq]
  rfl

/-- The weights, before division. -/
theorem v23_eq (i j : Fin 100) :
    res_main_v23 (F := Ideal) V (ix4 b i j 0) = weightR (score (feat V b) (ws V) i) (score (feat V b) (wd V)) j := by
  unfold res_main_v23
  clean_types
  pointwise
  simp only [v16_eq]
  rfl

/-- The first attention, with its bias. -/
theorem v33_eq (i : Fin 100) (d : Fin 32) : res_main_v33 (F := Ideal) V (ix3 b i d) = first V b i d := by
  unfold res_main_v33
  clean_types
  pointwise
  simp only [v2_eq, v23_eq]
  unfold first out1R attendR
  simp only [mul_comm (feat V b _ d)]

/-! ## The norm and the second hidden features -/

/-- The centred features. -/
theorem cent_eq (i : Fin 100) (d : Fin 32) :
    res_main_call1_v5 (F := Ideal) V (ix3 b i d) = first V b i d - mean (first V b i) := by
  unfold res_main_call1_v5
  clean_types
  pointwise
  simp only [v33_eq]
  rfl

/-- The number that divides the variance: the width less a zero. -/
theorem count_eq (k : S_.Idx) : res_main_call1_v8 (F := Ideal) V k = width := by
  unfold res_main_call1_v8
  clean_types
  pointwise
  have h : FloatOps.sitofp (F := Ideal) FTy.f32 0#32 = (0 : EReal) := by
    show (((0#32 : BitVec 32).toInt : ℝ) : EReal) = 0
    simp
  rw [h, sub_zero]
  rfl

/-- The second hidden features. -/
theorem v52_eq (i : Fin 100) : res_main_v52 (F := Ideal) V (ix3 b i 0) = second V b i := by
  unfold res_main_v52
  clean_types
  pointwise
  have hw : (0 : EReal) < width := by
    rw [width_eq]
    exact_mod_cast (by norm_num : (0 : ℝ) < 32)
  simp only [v33_eq, cent_eq, count_eq, if_pos hw]
  rfl

/-! ## The second attention and the unit -/

/-- The sums of a source and a destination score. -/
theorem v65_eq (i j : Fin 100) :
    res_main_v65 (F := Ideal) V (ix3 b i j) = second V b i * ws2 V + second V b j * wd2 V := by
  unfold res_main_v65
  clean_types
  pointwise
  simp only [Finset.univ_unique, Finset.sum_singleton, Fin.default_eq_zero, v52_eq]

/-- The rectified sums. -/
theorem v66_eq (i j : Fin 100) :
    res_main_v66 (F := Ideal) V (ix3 b i j) = lreluR (second V b i * ws2 V + second V b j * wd2 V) := by
  unfold res_main_v66
  clean_types
  pointwise
  rw [v65_eq]
  rfl

/-- The weights, before division. -/
theorem v73_eq (i j : Fin 100) :
    res_main_v73 (F := Ideal) V (ix3 b i j) = weightR (second V b i * ws2 V) (fun j => second V b j * wd2 V) j := by
  unfold res_main_v73
  clean_types
  pointwise
  simp only [v66_eq]
  rfl

/-- The second attention, with its bias. -/
theorem v81_eq (i : Fin 100) :
    res_main_v81 (F := Ideal) V (ix3 b i 0)
      = attendR (second V b i * ws2 V) (fun j => second V b j * wd2 V) (second V b) + b2 V := by
  unfold res_main_v81
  clean_types
  pointwise
  simp only [v73_eq, v52_eq]
  rfl

/-- The result's composed term, of the contents before the run. -/
def result : FVec Ideal S128x100x1 .f32 :=
  select (cmpf .ogt (res_main_v81 V) (broadcastInDim S128x100x1 ![] bcast_S_S128x100x1 (constant S_ .f32 0x00000000#32)))
    (res_main_v81 V)
    (mulf (broadcastInDim S128x100x1 ![] bcast_S_S128x100x1 (constant S_ .f32 0x3F800000#32))
      (Host.expm1 (select
        (cmpf .ogt (res_main_v81 V) (broadcastInDim S128x100x1 ![] bcast_S_S128x100x1 (constant S_ .f32 0x00000000#32)))
        (broadcastInDim S128x100x1 ![] bcast_S_S128x100x1 (id (constant S_ .f32 0x00000000#32))) (res_main_v81 V))))

/-- The result, read at an index: the reference's network on the slate. -/
theorem result_eq (i : Fin 100) :
    result V (ix3 b i 0)
      = netR (X V b) (W V) (ws V) (wd V) (b1 V) (ga V) (be V) (w2 V) (ws2 V) (wd2 V) (b2 V) i := by
  unfold result
  clean_types
  pointwise
  rw [v81_eq]
  have h0 : (id (constant S_ FTy.f32 0#32) : FVec Ideal S_ .f32) ix0 = (0 : EReal) := Ideal.ofBits_zero_f32
  rw [h0]
  rfl

end Cert.Proof.Read
-- ==== Proof.Value.lean ====
/- The value claim: from the same arguments, with the norm's scale and shift and the second layer's weights real, the
   kernel and the reference end with the same result. -/
module

public import proofs.«01_k».proof.Defs
public import proofs.«01_k».proof.Proof.Precondition
public import proofs.«01_k».proof.Proof.KernelArray
public import proofs.«01_k».proof.Proof.ReferenceRead

@[expose] public section

set_option maxRecDepth 16384

noncomputable section

namespace Cert.Proof

open Idealize.ShloMosaic Idealize.SL.Sem

/-- The kernel's and the reference's networks on one slate, equal. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (hpre : Pre_KernelIdeal_layer2_finite m) (c : Dev KernelIdeal.nD)
    (e0 : m' (c.tc.loc ReferenceIdeal.main_arg0) = m (c.tc.loc KernelIdeal.main_arg0))
    (e2 : m' (c.tc.loc ReferenceIdeal.main_arg2) = m (c.tc.loc KernelIdeal.main_arg2))
    (e3 : m' (c.tc.loc ReferenceIdeal.main_arg3) = m (c.tc.loc KernelIdeal.main_arg3))
    (e4 : m' (c.tc.loc ReferenceIdeal.main_arg4) = m (c.tc.loc KernelIdeal.main_arg4))
    (e5 : m' (c.tc.loc ReferenceIdeal.main_arg5) = m (c.tc.loc KernelIdeal.main_arg5))
    (e6 : m' (c.tc.loc ReferenceIdeal.main_arg6) = m (c.tc.loc KernelIdeal.main_arg6))
    (e7 : m' (c.tc.loc ReferenceIdeal.main_arg7) = m (c.tc.loc KernelIdeal.main_arg7))
    (e8 : m' (c.tc.loc ReferenceIdeal.main_arg8) = m (c.tc.loc KernelIdeal.main_arg8))
    (e9 : m' (c.tc.loc ReferenceIdeal.main_arg9) = m (c.tc.loc KernelIdeal.main_arg9))
    (e10 : m' (c.tc.loc ReferenceIdeal.main_arg10) = m (c.tc.loc KernelIdeal.main_arg10))
    (e11 : m' (c.tc.loc ReferenceIdeal.main_arg11) = m (c.tc.loc KernelIdeal.main_arg11)) :
    Read.result (StableHlo.launchContents m' c) = fun j : KernelIdeal.S128x100x1.Idx => Array.net m c (j 0) (j 1) := by
  have real := Pre_layer2_finite.decode _ _ _ _ _ _ _ _ _ _ _ _ (hpre c)
  funext j
  idx_vars j
  obtain rfl : j2 = 0 := Subsingleton.elim _ _
  rw [Read.result_eq]
  unfold Array.net
  unfold Read.X Read.W Read.ws Read.wd Read.b1 Read.ga Read.be Read.w2 Read.ws2 Read.wd2 Read.b2
  rw [StableHlo.launchContents_devRef, StableHlo.launchContents_devRef, StableHlo.launchContents_devRef,
    StableHlo.launchContents_devRef, StableHlo.launchContents_devRef, StableHlo.launchContents_devRef,
    StableHlo.launchContents_devRef, StableHlo.launchContents_devRef, StableHlo.launchContents_devRef,
    StableHlo.launchContents_devRef, StableHlo.launchContents_devRef]
  rw [e0, e2, e3, e4, e5, e6, e7, e8, e9, e10, e11]
  exact net_eq _ _ _ _ _ (fun d => (real d).1.1.1.1) (fun d => (real d).1.1.1.2) (fun d => (real d).1.1.2)
    (real 0).1.2 (real 0).2 _ _

/-- The value claim. -/
theorem algebraic : Cert.algebraic_KernelIdeal_ReferenceIdeal_pre_layer2_finite := by
  intro m g m' g' hpre hagree
  refine ⟨fun c => fun j : KernelIdeal.S128x100x1.Idx => Array.net m c (j 0) (j 1), Array.run m g,
    (θ_run ReferenceIdeal.defs _ _).mono (fun r h c => ⟨(h c).1.trans ?_, (h c).2⟩) (ReferenceIdeal.Value.run (F := Ideal) m' g')⟩
  obtain ⟨e0, e1, e2, e3, e4, e5, e6, e7, e8, e9, e10, e11⟩ := hagree c
  exact result_eq m m' hpre c e0 e2 e3 e4 e5 e6 e7 e8 e9 e10 e11

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- The reference leaves its arguments and its semaphores as it found them. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Everything the certificate states. -/
theorem claim : Cert.Claim := ⟨Cert.Kernel.Gen.facts, Cert.KernelIdeal.Gen.facts, Cert.ReferenceIdeal.Gen.facts,
  Cert.Pre_layer2_finite.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  trivial,
  algebraic⟩

end Cert.Proof

end
